-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x384x7168 : Shape := ⟨3, ![4, 384, 7168]⟩
abbrev S4x384x1 : Shape := ⟨3, ![4, 384, 1]⟩
abbrev S7168x18432 : Shape := ⟨2, ![7168, 18432]⟩
abbrev S18432 : Shape := ⟨1, ![18432]⟩
abbrev S1536x7168 : Shape := ⟨2, ![1536, 7168]⟩
abbrev S1x1536 : Shape := ⟨2, ![1, 1536]⟩
abbrev S1x18432 : Shape := ⟨2, ![1, 18432]⟩
abbrev S1536x18432 : Shape := ⟨2, ![1536, 18432]⟩
abbrev S7168x1536 : Shape := ⟨2, ![7168, 1536]⟩
abbrev S1536x1536 : Shape := ⟨2, ![1536, 1536]⟩
abbrev S1536x1 : Shape := ⟨2, ![1536, 1]⟩
abbrev S1x128 : Shape := ⟨2, ![1, 128]⟩
abbrev S128x128 : Shape := ⟨2, ![128, 128]⟩
abbrev S128x1 : Shape := ⟨2, ![128, 1]⟩
abbrev S512x7168 : Shape := ⟨2, ![512, 7168]⟩
abbrev S7168x512 : Shape := ⟨2, ![7168, 512]⟩
abbrev S512x512 : Shape := ⟨2, ![512, 512]⟩
abbrev S512x1 : Shape := ⟨2, ![512, 1]⟩
abbrev S1x512 : Shape := ⟨2, ![1, 512]⟩
abbrev S4x384x18432 : Shape := ⟨3, ![4, 384, 18432]⟩

abbrev nBuf : Space → Nat
  | .hbm => 11
  | .vmem => 11
  | .smem => 0
  | _ => 0

abbrev bufTy : (tb : Table) → Fin (tcTables nBuf tb) → BufTy
  | .hbm, ⟨0, _⟩ => ⟨S4x384x7168, .fp8e4m3⟩
  | .hbm, ⟨1, _⟩ => ⟨S4x384x1, .f32⟩
  | .hbm, ⟨2, _⟩ => ⟨S7168x18432, .fp8e4m3⟩
  | .hbm, ⟨3, _⟩ => ⟨S18432, .f32⟩
  | .hbm, ⟨4, _⟩ => ⟨S18432, .f32⟩
  | .hbm, ⟨5, _⟩ => ⟨S1536x7168, .fp8e4m3⟩
  | .hbm, ⟨6, _⟩ => ⟨S1x1536, .f32⟩
  | .hbm, ⟨7, _⟩ => ⟨S1x18432, .f32⟩
  | .hbm, ⟨8, _⟩ => ⟨S1x18432, .f32⟩
  | .hbm, ⟨9, _⟩ => ⟨S1536x18432, .bf16⟩
  | .hbm, ⟨10, _⟩ => ⟨S4x384x18432, .bf16⟩
  | .local _ .vmem, ⟨0, _⟩ => ⟨S1536x7168, .fp8e4m3⟩
  | .local _ .vmem, ⟨1, _⟩ => ⟨S1x1536, .f32⟩
  | .local _ .vmem, ⟨2, _⟩ => ⟨S7168x1536, .fp8e4m3⟩
  | .local _ .vmem, ⟨3, _⟩ => ⟨S7168x1536, .fp8e4m3⟩
  | .local _ .vmem, ⟨4, _⟩ => ⟨S1x1536, .f32⟩
  | .local _ .vmem, ⟨5, _⟩ => ⟨S1x1536, .f32⟩
  | .local _ .vmem, ⟨6, _⟩ => ⟨S1x1536, .f32⟩
  | .local _ .vmem, ⟨7, _⟩ => ⟨S1x1536, .f32⟩
  | .local _ .vmem, ⟨8, _⟩ => ⟨S1536x1536, .bf16⟩
  | .local _ .vmem, ⟨9, _⟩ => ⟨S1536x1536, .bf16⟩
  | .local _ .vmem, ⟨10, _⟩ => ⟨S1536x1, .f32⟩
  | _, _ => ⟨S4x384x7168, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1536x7168 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x1536 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S7168x1536 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1536x1536 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S4x384x7168 : Shape := ⟨3, ![4, 384, 7168]⟩
abbrev S4x384x1 : Shape := ⟨3, ![4, 384, 1]⟩
abbrev S7168x18432 : Shape := ⟨2, ![7168, 18432]⟩
abbrev S18432 : Shape := ⟨1, ![18432]⟩
abbrev S4x384x18432 : Shape := ⟨3, ![4, 384, 18432]⟩
abbrev S1x1x18432 : Shape := ⟨3, ![1, 1, 18432]⟩

abbrev nBuf : Space → Nat
  | .hbm => 6
  | .vmem => 6
  | .smem => 0
  | _ => 0

abbrev bufTy : (tb : Table) → Fin (tcTables nBuf tb) → BufTy
  | .hbm, ⟨0, _⟩ => ⟨S4x384x7168, .fp8e4m3⟩
  | .hbm, ⟨1, _⟩ => ⟨S4x384x1, .f32⟩
  | .hbm, ⟨2, _⟩ => ⟨S7168x18432, .fp8e4m3⟩
  | .hbm, ⟨3, _⟩ => ⟨S18432, .f32⟩
  | .hbm, ⟨4, _⟩ => ⟨S18432, .f32⟩
  | .hbm, ⟨5, _⟩ => ⟨S4x384x18432, .bf16⟩
  | .local _ .vmem, ⟨0, _⟩ => ⟨S4x384x7168, .fp8e4m3⟩
  | .local _ .vmem, ⟨1, _⟩ => ⟨S4x384x1, .f32⟩
  | .local _ .vmem, ⟨2, _⟩ => ⟨S7168x18432, .fp8e4m3⟩
  | .local _ .vmem, ⟨3, _⟩ => ⟨S18432, .f32⟩
  | .local _ .vmem, ⟨4, _⟩ => ⟨S18432, .f32⟩
  | .local _ .vmem, ⟨5, _⟩ => ⟨S4x384x18432, .bf16⟩
  | _, _ => ⟨S4x384x7168, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S4x384x7168 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x384x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S7168x18432 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S18432 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S18432 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4x384x18432 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Block.lean ====
/-
  Hand-written, untrusted. What one grid point of the kernel computes, over the extended reals: the scratch column that the
  first point fills, and the output block that every point stores.

  The output block is stored as nine 512 × 512 squares and the scratch as twelve pieces of 128 rows. Each list of pieces is
  shown to be one function of the block's index, cut into its squares (`tile`, `column`).
-/
module

public import proofs.«01_k».proof.Proof.Gen.KernelIdeal.Frame
public import Idealize.ShloMosaic.Lib.Pointwise
public import Idealize.ShloMosaic.Lib.Pipeline.ValueKit
public import Idealize.ShloMosaic.Lib.Pipeline.ReadBack

@[expose] public section

set_option maxRecDepth 16384

noncomputable section

namespace Cert.KernelIdeal.Block

open Idealize.ShloMosaic Idealize.ShloMosaic.TcCoe Idealize.SL.Sem
open Cert.KernelIdeal Cert.KernelIdeal.Gen

/-- The output block of one grid point: the product of the `x` rows and the `w` columns, times the row's scale, times the
    column's scale, plus the column's bias. -/
def tile (x : Vec Ideal S1536x7168 .fp8e4m3) (w : Vec Ideal S7168x1536 .fp8e4m3) (xs : Vec Ideal S1536x1 .f32)
    (ws b : Vec Ideal S1x1536 .f32) : Vec Ideal S1536x1536 .bf16 := fun j =>
  (∑ k : Fin 7168, x (ix2 (j 0) k) * w (ix2 k (j 1))) * xs (ix2 (j 0) 0) * ws (ix2 0 (j 1)) + b (ix2 0 (j 1))

/-- The `x_scale` row stood up as a column. -/
def column (x1 : Vec Ideal S1x1536 .f32) : Vec Ideal S1536x1 .f32 := fun j => x1 (ix2 0 (j 0))

/-- One 512 × 512 square at an index: what its store's value is, from the five loads. -/
theorem pay17_at (x : Vec Ideal S512x7168 .fp8e4m3) (w : Vec Ideal S7168x512 .fp8e4m3) (xs : Vec Ideal S512x1 .f32)
    (ws b : Vec Ideal S1x512 .f32) (j : S512x512.Idx) :
    k0_pay17 x w xs ws b j
      = (∑ k : Fin 7168, x (ix2 (j 0) k) * w (ix2 k (j 1))) * xs (ix2 (j 0) 0) * ws (ix2 0 (j 1)) + b (ix2 0 (j 1)) := by
  pointwise [k0_pay17]

/-- The broadcast, transpose and slice of 128 scales: entry `(j, 0)` is scale `j`. -/
theorem pay3_at (v : Vec Ideal S1x128 .f32) (j : S128x1.Idx) : k0_pay3 v j = v (ix2 0 (j 0)) := by
  pointwise [k0_pay3]

/-- Rows `r … r + 511` of the whole `x` block. -/
abbrev xRows (r : Nat) (h : ∀ a, (![r, 0] : Fin 2 → Nat) a + S512x7168.size a ≤ S1536x7168.size a) : Rect S1536x7168 :=
  Rect.unit ![r, 0] S512x7168.size h
/-- Columns `q … q + 511` of the `w` block. -/
abbrev wCols (q : Nat) (h : ∀ a, (![0, q] : Fin 2 → Nat) a + S7168x512.size a ≤ S7168x1536.size a) : Rect S7168x1536 :=
  Rect.unit ![0, q] S7168x512.size h
/-- Rows `r … r + 511` of the scratch column. -/
abbrev sRows (r : Nat) (h : ∀ a, (![r, 0] : Fin 2 → Nat) a + S512x1.size a ≤ S1536x1.size a) : Rect S1536x1 :=
  Rect.unit ![r, 0] S512x1.size h
/-- Entries `q … q + 511` of a block of one row. -/
abbrev vCols (q : Nat) (h : ∀ a, (![0, q] : Fin 2 → Nat) a + S1x512.size a ≤ S1x1536.size a) : Rect S1x1536 :=
  Rect.unit ![0, q] S1x512.size h
/-- The 512 × 512 square of the output block at row `r` and column `q`. -/
abbrev oSquare (r q : Nat) (h : ∀ a, (![r, q] : Fin 2 → Nat) a + S512x512.size a ≤ S1536x1536.size a) : Rect S1536x1536 :=
  Rect.unit ![r, q] S512x512.size h
/-- Entries `r … r + 127` of the `x_scale` row. -/
abbrev rCols (r : Nat) (h : ∀ a, (![0, r] : Fin 2 → Nat) a + S1x128.size a ≤ S1x1536.size a) : Rect S1x1536 :=
  Rect.unit ![0, r] S1x128.size h
/-- Rows `r … r + 127` of the scratch column. -/
abbrev cRows (r : Nat) (h : ∀ a, (![r, 0] : Fin 2 → Nat) a + S128x1.size a ≤ S1536x1.size a) : Rect S1536x1 :=
  Rect.unit ![r, 0] S128x1.size h

/-- The square at row `r` and column `q`, computed from the loads there, is `tile`'s own square there. -/
theorem pay17_piece (x : Vec Ideal S1536x7168 .fp8e4m3) (w : Vec Ideal S7168x1536 .fp8e4m3) (xs : Vec Ideal S1536x1 .f32)
    (ws b : Vec Ideal S1x1536 .f32) (r q : Nat) (h0) (h1) (h2) (h3) (h4) (h5) (j : S512x512.Idx) :
    k0_pay17 (View.ld x (xRows r h0)) (View.ld w (wCols q h1)) (View.ld xs (sRows r h2)) (View.ld ws (vCols q h3))
        (View.ld b (vCols q h4)) j
      = tile x w xs ws b ((oSquare r q h5).emb j) := by
  refine (pay17_at _ _ _ _ _ j).trans ?_
  have e0 : ∀ k : Fin 7168, (xRows r h0).emb (ix2 (j 0) k) = ix2 ((oSquare r q h5).emb j 0) k := fun k => by
    funext a; apply Fin.ext
    match a with
    | ⟨0, _⟩ => rfl
    | ⟨1, _⟩ => show 0 + 1 * k.val = k.val; omega
  have e1 : ∀ k : Fin 7168, (wCols q h1).emb (ix2 k (j 1)) = ix2 k ((oSquare r q h5).emb j 1) := fun k => by
    funext a; apply Fin.ext
    match a with
    | ⟨0, _⟩ => show 0 + 1 * k.val = k.val; omega
    | ⟨1, _⟩ => rfl
  have e2 : (sRows r h2).emb (ix2 (j 0) 0) = ix2 ((oSquare r q h5).emb j 0) 0 := by
    funext a; apply Fin.ext
    match a with
    | ⟨0, _⟩ => rfl
    | ⟨1, _⟩ => rfl
  have e3 : (vCols q h3).emb (ix2 0 (j 1)) = ix2 0 ((oSquare r q h5).emb j 1) := by
    funext a; apply Fin.ext
    match a with
    | ⟨0, _⟩ => rfl
    | ⟨1, _⟩ => rfl
  show (∑ k : Fin 7168, x ((xRows r h0).emb (ix2 (j 0) k)) * w ((wCols q h1).emb (ix2 k (j 1))))
      * xs ((sRows r h2).emb (ix2 (j 0) 0)) * ws ((vCols q h3).emb (ix2 0 (j 1)))
      + b ((vCols q h4).emb (ix2 0 (j 1))) = _
  rw [e2, e3]
  simp only [e0, e1]
  rfl

/-- The piece of 128 scales at row `r` is `column`'s own piece there. -/
theorem pay3_piece (x1 : Vec Ideal S1x1536 .f32) (r : Nat) (h1) (h2) (j : S128x1.Idx) :
    k0_pay3 (View.ld x1 (rCols r h1)) j = column x1 ((cRows r h2).emb j) := by
  refine (pay3_at _ j).trans ?_
  show x1 ((rCols r h1).emb (ix2 0 (j 0))) = x1 (ix2 0 ((cRows r h2).emb j 0))
  congr 1
  funext a; apply Fin.ext
  match a with
  | ⟨0, _⟩ => rfl
  | ⟨1, _⟩ => rfl

/-- The first point's twelve stores leave the scratch holding the `x_scale` column. -/
theorem scratch_A (c : Dev nD) (i : grid0.Coords) (arg1 : Memref sig .tc .vmem S1536x7168 .fp8e4m3) (harg1 : arg1.IsWhole) (arg2 : Memref sig .tc .vmem S1x1536 .f32) (harg2 : arg2.IsWhole) (arg3 : Memref sig .tc .vmem S7168x1536 .fp8e4m3) (harg3 : arg3.IsWhole) (arg4 : Memref sig .tc .vmem S1x1536 .f32) (harg4 : arg4.IsWhole) (arg5 : Memref sig .tc .vmem S1x1536 .f32) (harg5 : arg5.IsWhole) (arg6 : Memref sig .tc .vmem S1536x1536 .bf16) (harg6 : arg6.IsWhole) (arg7 : Memref sig .tc .vmem S1536x1 .f32) (harg7 : arg7.IsWhole) (hc0 : cond0_0 i)
    (x0 : Vec Ideal S1536x7168 .fp8e4m3) (x1 : Vec Ideal S1x1536 .f32) (x2 : Vec Ideal S7168x1536 .fp8e4m3) (x3 : Vec Ideal S1x1536 .f32) (x4 : Vec Ideal S1x1536 .f32) :
    View.canon (kernelRun0_A c i arg1 harg1 arg2 harg2 arg3 harg3 arg4 harg4 arg5 harg5 arg6 harg6 arg7 harg7 hc0 x0 x1 x2 x3 x4).2.1 = column x1 := by
  funext y
  refine View.canon_append_of_piecesOf (column x1) [] _ ?_ y (scover0_A_0 c i arg1 harg1 arg2 harg2 arg3 harg3 arg4 harg4 arg5 harg5 arg6 harg6 arg7 harg7 hc0 x0 x1 x2 x3 x4 y) |> (congrArg (fun L => View.canon L y) (List.append_nil _).symm).trans
  unfold kernelRun0_A
  dsimp only
  sl_unfold_words
  simp only [View.readAt_eq_ld, harg1.read_unread, harg2.read_unread, harg3.read_unread, harg4.read_unread, harg5.read_unread, harg7.read_unread]
  exact ⟨fun j => pay3_piece x1 1408 inb_S1x1536_S1x128_0_1408 inb_S1536x1_S128x1_1408_0 j, fun j => pay3_piece x1 1280 inb_S1x1536_S1x128_0_1280 inb_S1536x1_S128x1_1280_0 j, fun j => pay3_piece x1 1152 inb_S1x1536_S1x128_0_1152 inb_S1536x1_S128x1_1152_0 j,
    fun j => pay3_piece x1 1024 inb_S1x1536_S1x128_0_1024 inb_S1536x1_S128x1_1024_0 j, fun j => pay3_piece x1 896 inb_S1x1536_S1x128_0_896 inb_S1536x1_S128x1_896_0 j, fun j => pay3_piece x1 768 inb_S1x1536_S1x128_0_768 inb_S1536x1_S128x1_768_0 j,
    fun j => pay3_piece x1 640 inb_S1x1536_S1x128_0_640 inb_S1536x1_S128x1_640_0 j, fun j => pay3_piece x1 512 inb_S1x1536_S1x128_0_512 inb_S1536x1_S128x1_512_0 j, fun j => pay3_piece x1 384 inb_S1x1536_S1x128_0_384 inb_S1536x1_S128x1_384_0 j,
    fun j => pay3_piece x1 256 inb_S1x1536_S1x128_0_256 inb_S1536x1_S128x1_256_0 j, fun j => pay3_piece x1 128 inb_S1x1536_S1x128_0_128 inb_S1536x1_S128x1_128_0 j, fun j => pay3_piece x1 0 inb_S1x1536_S1x128_0_0 inb_S1536x1_S128x1_0_0 j, trivial⟩

/-- What the first point leaves in the scratch, as the frame names it. -/
theorem sout_A (c : Dev nD) (i : grid0.Coords) (arg1 : Memref sig .tc .vmem S1536x7168 .fp8e4m3) (harg1 : arg1.IsWhole) (arg2 : Memref sig .tc .vmem S1x1536 .f32) (harg2 : arg2.IsWhole) (arg3 : Memref sig .tc .vmem S7168x1536 .fp8e4m3) (harg3 : arg3.IsWhole) (arg4 : Memref sig .tc .vmem S1x1536 .f32) (harg4 : arg4.IsWhole) (arg5 : Memref sig .tc .vmem S1x1536 .f32) (harg5 : arg5.IsWhole) (arg6 : Memref sig .tc .vmem S1536x1536 .bf16) (harg6 : arg6.IsWhole) (arg7 : Memref sig .tc .vmem S1536x1 .f32) (harg7 : arg7.IsWhole) (hc0 : cond0_0 i)
    (x0 : Vec Ideal S1536x7168 .fp8e4m3) (x1 : Vec Ideal S1x1536 .f32) (x2 : Vec Ideal S7168x1536 .fp8e4m3) (x3 : Vec Ideal S1x1536 .f32) (x4 : Vec Ideal S1x1536 .f32) :
    sout0_A_0 c i arg1 harg1 arg2 harg2 arg3 harg3 arg4 harg4 arg5 harg5 arg6 harg6 arg7 harg7 hc0 x0 x1 x2 x3 x4 = column x1 := by
  unfold sout0_A_0
  rw [View.read_writes_eq_canon _ _ _ (scover0_A_0 c i arg1 harg1 arg2 harg2 arg3 harg3 arg4 harg4 arg5 harg5 arg6 harg6 arg7 harg7 hc0 x0 x1 x2 x3 x4)]
  exact scratch_A c i arg1 harg1 arg2 harg2 arg3 harg3 arg4 harg4 arg5 harg5 arg6 harg6 arg7 harg7 hc0 x0 x1 x2 x3 x4

/-- A later point, the scratch holding `xs0`, leaves `tile` with that column in the output block. -/
theorem out_B (c : Dev nD) (i : grid0.Coords) (arg1 : Memref sig .tc .vmem S1536x7168 .fp8e4m3) (harg1 : arg1.IsWhole) (arg2 : Memref sig .tc .vmem S1x1536 .f32) (harg2 : arg2.IsWhole) (arg3 : Memref sig .tc .vmem S7168x1536 .fp8e4m3) (harg3 : arg3.IsWhole) (arg4 : Memref sig .tc .vmem S1x1536 .f32) (harg4 : arg4.IsWhole) (arg5 : Memref sig .tc .vmem S1x1536 .f32) (harg5 : arg5.IsWhole) (arg6 : Memref sig .tc .vmem S1536x1536 .bf16) (harg6 : arg6.IsWhole) (arg7 : Memref sig .tc .vmem S1536x1 .f32) (harg7 : arg7.IsWhole) (hc0 : ¬cond0_0 i)
    (x0 : Vec Ideal S1536x7168 .fp8e4m3) (x1 : Vec Ideal S1x1536 .f32) (x2 : Vec Ideal S7168x1536 .fp8e4m3) (x3 : Vec Ideal S1x1536 .f32) (x4 : Vec Ideal S1x1536 .f32) (xs0 : Vec Ideal S1536x1 .f32) :
    out0_B_5 c i arg1 harg1 arg2 harg2 arg3 harg3 arg4 harg4 arg5 harg5 arg6 harg6 arg7 harg7 hc0 x0 x1 x2 x3 x4 xs0 = tile x0 x2 xs0 x3 x4 := by
  unfold out0_B_5
  rw [View.read_writes_eq_canon _ _ _ (cover0_B_5 c i arg1 harg1 arg2 harg2 arg3 harg3 arg4 harg4 arg5 harg5 arg6 harg6 arg7 harg7 hc0 x0 x1 x2 x3 x4 xs0)]
  funext y
  refine View.canon_append_of_piecesOf (tile x0 x2 xs0 x3 x4) [] _ ?_ y (cover0_B_5 c i arg1 harg1 arg2 harg2 arg3 harg3 arg4 harg4 arg5 harg5 arg6 harg6 arg7 harg7 hc0 x0 x1 x2 x3 x4 xs0 y) |> (congrArg (fun L => View.canon L y) (List.append_nil _).symm).trans
  unfold kernelRun0_B
  dsimp only
  sl_unfold_words
  simp only [View.readAt_eq_ld, harg1.read_unread, harg2.read_unread, harg3.read_unread, harg4.read_unread, harg5.read_unread, harg7.read_unread]
  exact ⟨fun j => pay17_piece x0 x2 xs0 x3 x4 1024 1024 inb_S1536x7168_S512x7168_1024_0 inb_S7168x1536_S7168x512_0_1024 inb_S1536x1_S512x1_1024_0
      inb_S1x1536_S1x512_0_1024 inb_S1x1536_S1x512_0_1024 inb_S1536x1536_S512x512_1024_1024 j,
    fun j => pay17_piece x0 x2 xs0 x3 x4 1024 512 inb_S1536x7168_S512x7168_1024_0 inb_S7168x1536_S7168x512_0_512 inb_S1536x1_S512x1_1024_0
      inb_S1x1536_S1x512_0_512 inb_S1x1536_S1x512_0_512 inb_S1536x1536_S512x512_1024_512 j,

    fun j => pay17_piece x0 x2 xs0 x3 x4 1024 0 inb_S1536x7168_S512x7168_1024_0 inb_S7168x1536_S7168x512_0_0 inb_S1536x1_S512x1_1024_0
      inb_S1x1536_S1x512_0_0 inb_S1x1536_S1x512_0_0 inb_S1536x1536_S512x512_1024_0 j,
    fun j => pay17_piece x0 x2 xs0 x3 x4 512 1024 inb_S1536x7168_S512x7168_512_0 inb_S7168x1536_S7168x512_0_1024 inb_S1536x1_S512x1_512_0
      inb_S1x1536_S1x512_0_1024 inb_S1x1536_S1x512_0_1024 inb_S1536x1536_S512x512_512_1024 j,

    fun j => pay17_piece x0 x2 xs0 x3 x4 512 512 inb_S1536x7168_S512x7168_512_0 inb_S7168x1536_S7168x512_0_512 inb_S1536x1_S512x1_512_0
      inb_S1x1536_S1x512_0_512 inb_S1x1536_S1x512_0_512 inb_S1536x1536_S512x512_512_512 j,
    fun j => pay17_piece x0 x2 xs0 x3 x4 512 0 inb_S1536x7168_S512x7168_512_0 inb_S7168x1536_S7168x512_0_0 inb_S1536x1_S512x1_512_0
      inb_S1x1536_S1x512_0_0 inb_S1x1536_S1x512_0_0 inb_S1536x1536_S512x512_512_0 j,

    fun j => pay17_piece x0 x2 xs0 x3 x4 0 1024 inb_S1536x7168_S512x7168_0_0 inb_S7168x1536_S7168x512_0_1024 inb_S1536x1_S512x1_0_0
      inb_S1x1536_S1x512_0_1024 inb_S1x1536_S1x512_0_1024 inb_S1536x1536_S512x512_0_1024 j,
    fun j => pay17_piece x0 x2 xs0 x3 x4 0 512 inb_S1536x7168_S512x7168_0_0 inb_S7168x1536_S7168x512_0_512 inb_S1536x1_S512x1_0_0
      inb_S1x1536_S1x512_0_512 inb_S1x1536_S1x512_0_512 inb_S1536x1536_S512x512_0_512 j,

    fun j => pay17_piece x0 x2 xs0 x3 x4 0 0 inb_S1536x7168_S512x7168_0_0 inb_S7168x1536_S7168x512_0_0 inb_S1536x1_S512x1_0_0
      inb_S1x1536_S1x512_0_0 inb_S1x1536_S1x512_0_0 inb_S1536x1536_S512x512_0_0 j,
    trivial⟩

/-- The first point reads back the scratch it has just filled and leaves `tile` with the `x_scale` column. -/
theorem out_A (c : Dev nD) (i : grid0.Coords) (arg1 : Memref sig .tc .vmem S1536x7168 .fp8e4m3) (harg1 : arg1.IsWhole) (arg2 : Memref sig .tc .vmem S1x1536 .f32) (harg2 : arg2.IsWhole) (arg3 : Memref sig .tc .vmem S7168x1536 .fp8e4m3) (harg3 : arg3.IsWhole) (arg4 : Memref sig .tc .vmem S1x1536 .f32) (harg4 : arg4.IsWhole) (arg5 : Memref sig .tc .vmem S1x1536 .f32) (harg5 : arg5.IsWhole) (arg6 : Memref sig .tc .vmem S1536x1536 .bf16) (harg6 : arg6.IsWhole) (arg7 : Memref sig .tc .vmem S1536x1 .f32) (harg7 : arg7.IsWhole) (hc0 : cond0_0 i)
    (x0 : Vec Ideal S1536x7168 .fp8e4m3) (x1 : Vec Ideal S1x1536 .f32) (x2 : Vec Ideal S7168x1536 .fp8e4m3) (x3 : Vec Ideal S1x1536 .f32) (x4 : Vec Ideal S1x1536 .f32) :
    out0_A_5 c i arg1 harg1 arg2 harg2 arg3 harg3 arg4 harg4 arg5 harg5 arg6 harg6 arg7 harg7 hc0 x0 x1 x2 x3 x4 = tile x0 x2 (column x1) x3 x4 := by
  have hs := scratch_A c i arg1 harg1 arg2 harg2 arg3 harg3 arg4 harg4 arg5 harg5 arg6 harg6 arg7 harg7 hc0 x0 x1 x2 x3 x4
  unfold out0_A_5
  rw [View.read_writes_eq_canon _ _ _ (cover0_A_5 c i arg1 harg1 arg2 harg2 arg3 harg3 arg4 harg4 arg5 harg5 arg6 harg6 arg7 harg7 hc0 x0 x1 x2 x3 x4)]
  funext y
  refine View.canon_append_of_piecesOf (tile x0 x2 (column x1) x3 x4) [] _ ?_ y (cover0_A_5 c i arg1 harg1 arg2 harg2 arg3 harg3 arg4 harg4 arg5 harg5 arg6 harg6 arg7 harg7 hc0 x0 x1 x2 x3 x4 y) |> (congrArg (fun L => View.canon L y) (List.append_nil _).symm).trans
  revert hs
  unfold kernelRun0_A
  dsimp only
  sl_unfold_words
  simp only [View.readAt_eq_ld, harg1.read_unread, harg2.read_unread, harg3.read_unread, harg4.read_unread, harg5.read_unread, harg7.read_unread, View.readCov_eq_canon']
  intro hs
  simp only [hs]
  clear hs
  exact ⟨fun j => pay17_piece x0 x2 (column x1) x3 x4 1024 1024 inb_S1536x7168_S512x7168_1024_0 inb_S7168x1536_S7168x512_0_1024 inb_S1536x1_S512x1_1024_0
      inb_S1x1536_S1x512_0_1024 inb_S1x1536_S1x512_0_1024 inb_S1536x1536_S512x512_1024_1024 j,
    fun j => pay17_piece x0 x2 (column x1) x3 x4 1024 512 inb_S1536x7168_S512x7168_1024_0 inb_S7168x1536_S7168x512_0_512 inb_S1536x1_S512x1_1024_0
      inb_S1x1536_S1x512_0_512 inb_S1x1536_S1x512_0_512 inb_S1536x1536_S512x512_1024_512 j,

    fun j => pay17_piece x0 x2 (column x1) x3 x4 1024 0 inb_S1536x7168_S512x7168_1024_0 inb_S7168x1536_S7168x512_0_0 inb_S1536x1_S512x1_1024_0
      inb_S1x1536_S1x512_0_0 inb_S1x1536_S1x512_0_0 inb_S1536x1536_S512x512_1024_0 j,
    fun j => pay17_piece x0 x2 (column x1) x3 x4 512 1024 inb_S1536x7168_S512x7168_512_0 inb_S7168x1536_S7168x512_0_1024 inb_S1536x1_S512x1_512_0
      inb_S1x1536_S1x512_0_1024 inb_S1x1536_S1x512_0_1024 inb_S1536x1536_S512x512_512_1024 j,

    fun j => pay17_piece x0 x2 (column x1) x3 x4 512 512 inb_S1536x7168_S512x7168_512_0 inb_S7168x1536_S7168x512_0_512 inb_S1536x1_S512x1_512_0
      inb_S1x1536_S1x512_0_512 inb_S1x1536_S1x512_0_512 inb_S1536x1536_S512x512_512_512 j,
    fun j => pay17_piece x0 x2 (column x1) x3 x4 512 0 inb_S1536x7168_S512x7168_512_0 inb_S7168x1536_S7168x512_0_0 inb_S1536x1_S512x1_512_0
      inb_S1x1536_S1x512_0_0 inb_S1x1536_S1x512_0_0 inb_S1536x1536_S512x512_512_0 j,

    fun j => pay17_piece x0 x2 (column x1) x3 x4 0 1024 inb_S1536x7168_S512x7168_0_0 inb_S7168x1536_S7168x512_0_1024 inb_S1536x1_S512x1_0_0
      inb_S1x1536_S1x512_0_1024 inb_S1x1536_S1x512_0_1024 inb_S1536x1536_S512x512_0_1024 j,
    fun j => pay17_piece x0 x2 (column x1) x3 x4 0 512 inb_S1536x7168_S512x7168_0_0 inb_S7168x1536_S7168x512_0_512 inb_S1536x1_S512x1_0_0
      inb_S1x1536_S1x512_0_512 inb_S1x1536_S1x512_0_512 inb_S1536x1536_S512x512_0_512 j,

    fun j => pay17_piece x0 x2 (column x1) x3 x4 0 0 inb_S1536x7168_S512x7168_0_0 inb_S7168x1536_S7168x512_0_0 inb_S1536x1_S512x1_0_0
      inb_S1x1536_S1x512_0_0 inb_S1x1536_S1x512_0_0 inb_S1536x1536_S512x512_0_0 j,
    trivial⟩

end Cert.KernelIdeal.Block

end
-- ==== Proof.Array.lean ====
/-
  Hand-written, untrusted. The kernel's result array after the run, over the extended reals, as a function of the five
  argument arrays.

  The first grid point fills the scratch with the `x_scale` column and the other eleven keep it (`scratch_eq`), so every
  point stores `tile` of its blocks. The twelve stored blocks tile the flat result, which ends holding `flat` of the operands
  (`region_eq`). The operands are the arguments reshaped, and the reshape after the kernel turns rows of the flat result back
  into batch and position (`result_eq`).
-/
module

public import proofs.«01_k».proof.Proof.Block
public import Idealize.ShloMosaic.Lib.Claim
public import Idealize.ShloMosaic.Lib.StableHlo.Run

@[expose] public section

set_option maxRecDepth 16384

noncomputable section

namespace Cert.KernelIdeal.Block

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg)

/-- Which block of its array each window is on at a grid point: the first two are on their whole arrays, the others on the
    point's own block of columns. -/
theorem idx : ∀ t : Fin grid0.N, win0_0.index t = ![0, 0] ∧ win0_1.index t = ![0, 0] ∧ win0_2.index t = ![0, t.val]
    ∧ win0_3.index t = ![0, t.val] ∧ win0_4.index t = ![0, t.val] ∧ win0_5.index t = ![0, t.val] := by
  decide +kernel

/-- The flat operands' linear layer: row `r`, column `q`. -/
def flat (x : Vec Ideal S1536x7168 .fp8e4m3) (xs : Vec Ideal S1x1536 .f32) (w : Vec Ideal S7168x18432 .fp8e4m3)
    (ws b : Vec Ideal S1x18432 .f32) : Vec Ideal S1536x18432 .bf16 := fun j =>
  (∑ k : Fin 7168, x (ix2 (j 0) k) * w (ix2 k (j 1))) * xs (ix2 0 (j 0)) * ws (ix2 0 (j 1)) + b (ix2 0 (j 1))

/-- The `x_scale` operand as the region finds it. -/
abbrev scales (c : Dev nD) : Vec Ideal S1x1536 .f32 := V m c main_v1

/-- The block of `x_scale` is the whole operand at every point. -/
theorem iblk1_eq (c : Dev nD) (t : Fin cfg0.N) : iblk m c 1 t = scales m c := by
  funext y
  have h := idx t
  blk_ext [iblk, idx t]

/-- After every point the scratch holds the `x_scale` column. -/
theorem scratch_eq (c : Dev nD) : ∀ (n : ℕ) (h : n < cfg0.N), (outsAt0 m c n h).2 = column (scales m c)
  | 0, h => by
    rw [outsAt0_A m c ⟨0, h⟩ rfl]
    dsimp only
    rw [sout_A, iblk1_eq]
  | n + 1, h => by
    have hN : cfg0.N = 12 := N_0
    have hB : ¬(⟨n + 1, h⟩ : Fin cfg0.N).val % 12 = 0 := by dsimp only; omega
    rw [outsAt0_B m c ⟨n + 1, h⟩ hB]
    exact scratch_eq c n _

/-- What every point stores: `tile` of its blocks, with the `x_scale` column. -/
theorem stored_eq (c : Dev nD) (t : Fin cfg0.N) :
    (outsAt0 m c t.val t.isLt).1 = tile (iblk m c 0 t) (iblk m c 2 t) (column (scales m c)) (iblk m c 3 t) (iblk m c 4 t) := by
  by_cases h : t.val % 12 = 0
  · rw [outsAt0_A m c t h]
    dsimp only
    rw [out_A, iblk1_eq]
  · rw [outsAt0_B m c t h]
    dsimp only
    rw [out_B, scratch_eq]

/-- Column `y` of the point's block of 1536 columns, among all the columns. -/
def col (t : Fin cfg0.N) (y : Fin 1536) : Fin 18432 :=
  ⟨t.val * 1536 + y.val, by
    have h : t.val < 12 := Nat.lt_of_lt_of_eq t.isLt N_0
    omega⟩

/-- The block of `x` is the whole operand at every point. -/
theorem iblk0_eq (c : Dev nD) (t : Fin cfg0.N) : iblk m c 0 t = V m c main_v0 := by
  funext y
  blk_ext [iblk, idx t]

/-- The block of `w` at an index. -/
theorem iblk2_at (c : Dev nD) (t : Fin cfg0.N) (k : Fin 7168) (y : Fin 1536) :
    iblk m c 2 t (ix2 k y) = V m c main_arg2 (ix2 k (col t y)) := by
  show V m c main_arg2 (((cfg0.win 2).blk t).view.emb _) = _
  congr 1
  funext a
  apply Fin.ext
  match a with
  | ⟨0, _⟩ => blk_simp [idx t]
  | ⟨1, _⟩ => blk_simp [idx t]; rfl

/-- The block of `w_scale` at an index. -/
theorem iblk3_at (c : Dev nD) (t : Fin cfg0.N) (y : Fin 1536) : iblk m c 3 t (ix2 0 y) = V m c main_v2 (ix2 0 (col t y)) := by
  show V m c main_v2 (((cfg0.win 3).blk t).view.emb _) = _
  congr 1
  funext a
  apply Fin.ext
  match a with
  | ⟨0, _⟩ => blk_simp [idx t]
  | ⟨1, _⟩ => blk_simp [idx t]; rfl

/-- The block of `bias` at an index. -/
theorem iblk4_at (c : Dev nD) (t : Fin cfg0.N) (y : Fin 1536) : iblk m c 4 t (ix2 0 y) = V m c main_v3 (ix2 0 (col t y)) := by
  show V m c main_v3 (((cfg0.win 4).blk t).view.emb _) = _
  congr 1
  funext a
  apply Fin.ext
  match a with
  | ⟨0, _⟩ => blk_simp [idx t]
  | ⟨1, _⟩ => blk_simp [idx t]; rfl

/-- Where the output block's index lies in the flat result. -/
theorem emb_at (t : Fin cfg0.N) (y : S1536x1536.Idx) : (win0_5.blk t).view.emb y = ix2 (y 0) (col t (y 1)) := by
  funext a
  apply Fin.ext
  match a with
  | ⟨0, _⟩ => blk_simp [idx t]; rfl
  | ⟨1, _⟩ => blk_simp [idx t]; rfl

/-- `tile` of a point's blocks is the flat layer at the point's columns. -/
theorem tile_at (c : Dev nD) (t : Fin cfg0.N) (y : S1536x1536.Idx) :
    tile (iblk m c 0 t) (iblk m c 2 t) (column (scales m c)) (iblk m c 3 t) (iblk m c 4 t) y
      = flat (V m c main_v0) (V m c main_v1) (V m c main_arg2) (V m c main_v2) (V m c main_v3) (ix2 (y 0) (col t (y 1))) := by
  exact congrArg₂ (· + ·)
    (congrArg₂ (· * ·)
      (congrArg (· * scales m c (ix2 0 (y 0)))
        (Finset.sum_congr rfl fun k _ => congrArg₂ (· * ·) (congrFun (iblk0_eq m c t) _) (iblk2_at m c t k (y 1))))
      (iblk3_at m c t (y 1)))
    (iblk4_at m c t (y 1))

/-- The flat result after the run. -/
theorem region_eq (c : Dev nD) :
    (dats m 0 c).arrAt 5 cfg0.N = flat (V m c main_v0) (V m c main_v1) (V m c main_arg2) (V m c main_v2) (V m c main_v3) := by
  refine (dats m 0 c).arrAt_eq_of_covers 5 _ (by decide +kernel) fun t hf y => ?_
  blk_simp
  rw [after0_5, stored_eq]
  exact (tile_at m c t y).trans (congrArg _ (emb_at t y).symm)

/-- The linear layer of the five arguments: batch `j 0`, position `j 1`, output channel `j 2`. -/
def layer (x : Vec Ideal S4x384x7168 .fp8e4m3) (xs : Vec Ideal S4x384x1 .f32) (w : Vec Ideal S7168x18432 .fp8e4m3)
    (ws b : Vec Ideal S18432 .f32) : Vec Ideal S4x384x18432 .bf16 := fun j =>
  (∑ k : Fin 7168, x (ix3 (j 0) (j 1) k) * w (ix2 k (j 2))) * xs (ix3 (j 0) (j 1) 0) * ws (ix1 (j 2)) + b (ix1 (j 2))

/-- Reshaping the operands, taking the flat layer and reshaping its result is the layer of the arguments. -/
theorem flat_reshape (x : Vec Ideal S4x384x7168 .fp8e4m3) (xs : Vec Ideal S4x384x1 .f32) (w : Vec Ideal S7168x18432 .fp8e4m3)
    (ws b : Vec Ideal S18432 .f32) :
    shapeCast S4x384x18432 (flat (shapeCast S1536x7168 x shapeCasts_S4x384x7168_S1536x7168)
        (shapeCast S1x1536 xs shapeCasts_S4x384x1_S1x1536) w (shapeCast S1x18432 ws shapeCasts_S18432_S1x18432)
        (shapeCast S1x18432 b shapeCasts_S18432_S1x18432)) shapeCasts_S1536x18432_S4x384x18432
      = layer x xs w ws b := by
  funext j
  pointwise [flat, layer]

/-- The result array after the run and the reshape that follows it. -/
theorem result_eq (c : Dev nD) :
    Pipeline.afterTail₀ cfgs (dats m) 0 (V0 m) [hostOps1] c main_v5
      = layer (m ((c : Thread nD τ).loc main_arg0)) (m ((c : Thread nD τ).loc main_arg1)) (m ((c : Thread nD τ).loc main_arg2))
          (m ((c : Thread nD τ).loc main_arg3)) (m ((c : Thread nD τ).loc main_arg4)) := by
  have h4 : Pipeline.withArrays (cfgs 0).spec c (V0 m c) (fun w => (dats m 0 c).arrAt w (cfgs 0).N) (Proc.devRef .tc main_v4)
      = flat (V m c main_v0) (V m c main_v1) (V m c main_arg2) (V m c main_v2) (V m c main_v3) :=
    (Pipeline.withArrays_arr spec0 (by decide) c _ _ 5).trans (region_eq m c)
  unfold Pipeline.afterTail₀
  rw [← flat_reshape]
  simp only [List.flatten_cons, List.flatten_nil, List.append_nil]
  show StableHlo.after hostOps1 _ _ = _
  unfold_abbrev_sides
  after_results
  rw [h4]
  entry_read
  rfl

/-- The run: the result at the layer of the arguments, and the arguments unchanged. -/
theorem run : θ_run defs (onTc (τ := τ) (main (F := Ideal))) ⟨m, fun _ => 0, ρ⟩ fun r => ∀ c : Dev nD,
    r.2.mem ((c : Thread nD τ).loc main_v5)
        = layer (m ((c : Thread nD τ).loc main_arg0)) (m ((c : Thread nD τ).loc main_arg1)) (m ((c : Thread nD τ).loc main_arg2))
            (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨((h.1 c).2 main_v5 (by decide)).trans (result_eq m c), h.2 c⟩)
    (θ_run_and (run_main m ρ) (unchanged m ρ))

end Cert.KernelIdeal.Block

end
-- ==== Proof.Equation.lean ====
/-
  Hand-written, untrusted. What the reference computes over the extended reals is the same layer of the arguments that the
  kernel's result is.
-/
module

public import proofs.«01_k».proof.Proof.Array
public import proofs.«01_k».proof.Proof.Gen.ReferenceIdeal.Value
public import Idealize.ShloMosaic.Lib.Pointwise

@[expose] public section

set_option maxRecDepth 16384

noncomputable section

namespace Cert.ReferenceIdeal.Block

open Idealize.ShloMosaic Idealize.ShloMosaic.TcCoe
open Cert.ReferenceIdeal Cert.ReferenceIdeal.Gen

/-- The reference's stored value is the linear layer of its arguments. -/
theorem value_eq (x : Vec Ideal S4x384x7168 .fp8e4m3) (xs : Vec Ideal S4x384x1 .f32) (w : Vec Ideal S7168x18432 .fp8e4m3)
    (ws b : Vec Ideal S18432 .f32) : k0_pay1 x w xs ws b = Cert.KernelIdeal.Block.layer x xs w ws b := by
  funext j
  pointwise [k0_pay1, Cert.KernelIdeal.Block.layer]

end Cert.ReferenceIdeal.Block

end
-- ==== Proof.lean ====
/-
  The proof of `Cert.Claim`, hand-written, untrusted: the three programs run to completion, fault-free, with every semaphore
  counter at zero; idealizing the kernel replaces nothing; and over the extended reals the kernel and the reference leave
  the same result.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal.Value
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Array
public import proofs.«01_k».proof.Proof.Equation
public import Idealize.ShloMosaic.Adequacy
public import Idealize.ShloMosaic.Init

@[expose] public section

noncomputable section

namespace Cert.Proof

open Idealize.ShloMosaic Idealize.SL.Sem Cert.Kernel

/-- Over the extended reals, from equal arguments, the kernel's result and the reference's are the same linear layer of the
    arguments, which both programs leave unchanged. -/
theorem algebraic : algebraic_KernelIdeal_ReferenceIdeal (hKernelIdeal := Cert.KernelIdeal.Gen.facts)
    (hReferenceIdeal := Cert.ReferenceIdeal.Gen.facts) :=
  fun m g m' g' _ hagree => ⟨_, Cert.KernelIdeal.Block.run m g, (θ_run _ _ _).mono
    (fun _ h c => ⟨by
      obtain ⟨e0, e1, e2, e3, e4⟩ := hagree c
      rw [(h c).1, e0, e1, e2, e3, e4]
      exact Cert.ReferenceIdeal.Block.value_eq _ _ _ _ _, (h c).2⟩)
    (Cert.ReferenceIdeal.Value.run m' g')⟩

/-- Everything the certificate claims. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ,
  fun m ρ _ => Cert.ReferenceIdeal.Gen.frame m ρ, trivial, algebraic⟩

end Cert.Proof

end
